-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "c2" .f32 0xC438AA3B#32 ((-(512 * (Real.log 2)⁻¹) : ℝ) : EReal)
  ∧ IdealRules.named_const.Statement Cert.KernelIdeal.κ "inv_n" .f32 0x3597B426#32 ((1 / 884736 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1x96x96x96 : Shape := ⟨5, ![2, 1, 96, 96, 96]⟩
abbrev S_ : Shape := ⟨0, ![]⟩

class Facts : Prop where
  bcast_S_S2x1x96x96x96 : S_.BroadcastsInDim S2x1x96x96x96 (![] : Fin 0 → Fin S2x1x96x96x96.rank)

variable [Facts]

def fn {F : FTy → Type} [FloatOps F] (main_arg0 : FVec F S2x1x96x96x96 .f32) (main_arg1 : FVec F S2x1x96x96x96 .f32) : IVec S2x1x96x96x96 1 :=
  let main_v0 : FVec F S2x1x96x96x96 .f32 := Host.absf main_arg0
  let main_cst : FVec F S_ .f32 := constant S_ .f32 0x7F800000#32
  let main_v1 : FVec F S2x1x96x96x96 .f32 := broadcastInDim S2x1x96x96x96 ![] bcast_S_S2x1x96x96x96 main_cst
  let main_v2 : IVec S2x1x96x96x96 1 := cmpf .olt main_v0 main_v1
  let main_v3 : FVec F S2x1x96x96x96 .f32 := Host.absf main_arg1
  let main_cst_0 : FVec F S_ .f32 := constant S_ .f32 0x7F800000#32
  let main_v4 : FVec F S2x1x96x96x96 .f32 := broadcastInDim S2x1x96x96x96 ![] bcast_S_S2x1x96x96x96 main_cst_0
  let main_v5 : IVec S2x1x96x96x96 1 := cmpf .olt main_v3 main_v4
  let main_v6 : IVec S2x1x96x96x96 1 := andi main_v2 main_v5
  main_v6
-- ==== Kernel.lean ====
abbrev S2x1x96x96x96 : Shape := ⟨5, ![2, 1, 96, 96, 96]⟩
abbrev S54x2x16384 : Shape := ⟨3, ![54, 2, 16384]⟩
abbrev S1x1 : Shape := ⟨2, ![1, 1]⟩
abbrev S_ : Shape := ⟨0, ![]⟩
abbrev S1x2x16384 : Shape := ⟨3, ![1, 2, 16384]⟩
abbrev S32x32 : Shape := ⟨2, ![32, 32]⟩
abbrev S32x1 : Shape := ⟨2, ![32, 1]⟩
abbrev S1x1x16384 : Shape := ⟨3, ![1, 1, 16384]⟩
abbrev S1x16384 : Shape := ⟨2, ![1, 16384]⟩
abbrev S32x16384 : Shape := ⟨2, ![32, 16384]⟩
abbrev S16384 : Shape := ⟨1, ![16384]⟩
abbrev S32 : Shape := ⟨1, ![32]⟩
abbrev S1x32 : Shape := ⟨2, ![1, 32]⟩
abbrev S1x32x32 : Shape := ⟨3, ![1, 32, 32]⟩
abbrev S1 : Shape := ⟨1, ![1]⟩
abbrev S1x1x1 : Shape := ⟨3, ![1, 1, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x1x96x96x96, .f32⟩
  | .hbm, ⟨1, _⟩ => ⟨S2x1x96x96x96, .f32⟩
  | .hbm, ⟨2, _⟩ => ⟨S54x2x16384, .f32⟩
  | .hbm, ⟨3, _⟩ => ⟨S54x2x16384, .f32⟩
  | .hbm, ⟨4, _⟩ => ⟨S1x1, .f32⟩
  | .hbm, ⟨5, _⟩ => ⟨S_, .f32⟩
  | .local _ .vmem, ⟨0, _⟩ => ⟨S1x2x16384, .f32⟩
  | .local _ .vmem, ⟨1, _⟩ => ⟨S1x2x16384, .f32⟩
  | .local _ .vmem, ⟨2, _⟩ => ⟨S1x2x16384, .f32⟩
  | .local _ .vmem, ⟨3, _⟩ => ⟨S1x2x16384, .f32⟩
  | .local _ .vmem, ⟨4, _⟩ => ⟨S1x1, .f32⟩
  | .local _ .vmem, ⟨5, _⟩ => ⟨S32x32, .f32⟩
  | .local _ .vmem, ⟨6, _⟩ => ⟨S32x1, .f32⟩
  | .local _ .vmem, ⟨7, _⟩ => ⟨S32x1, .f32⟩
  | _, _ => ⟨S2x1x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 27], ![false, false]⟩

def k0_cond2 (i : grid0.Coords) : BitVec 1 :=
  let arg1 : BitVec 32 := BitVec.ofNat 32 (i 1).val
  let c26_i32 : BitVec 32 := 26#32
  let v101 : BitVec 1 := Scalar.cmpi .eq arg1 c26_i32
  let v102 : BitVec 32 := Scalar.extui v101
  let c0_i32_50 : BitVec 32 := 0#32
  let v103 : BitVec 1 := Scalar.cmpi .ne v102 c0_i32_50
  v103

def k0_cond3 (i : grid0.Coords) : BitVec 1 :=
  let arg0 : BitVec 32 := BitVec.ofNat 32 (i 0).val
  let c0_i32_64 : BitVec 32 := 0#32
  let v131 : BitVec 1 := Scalar.cmpi .eq arg0 c0_i32_64
  let v132 : BitVec 32 := Scalar.extui v131
  let c0_i32_65 : BitVec 32 := 0#32
  let v133 : BitVec 1 := Scalar.cmpi .ne v132 c0_i32_65
  v133

def cc0_transform_0 (i : grid0.Coords) : Fin 3 → Nat :=
  let arg0 : BitVec 32 := BitVec.ofNat 32 (i 0).val
  let arg1 : BitVec 32 := BitVec.ofNat 32 (i 1).val
  let c27_i32 : BitVec 32 := 27#32
  let v0 : BitVec 32 := Scalar.muli arg0 c27_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c27_i32 : BitVec 32 := 27#32
  let v0 : BitVec 32 := Scalar.muli arg0 c27_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== KernelIdeal.lean ====
variable {F : FTy → Type} [FloatOps F] [Named F]
def κ : String → Option EReal := fun
  | "c2" => some ((-(512 * (Real.log 2)⁻¹) : ℝ) : EReal)
  | "inv_n" => some ((1 / 884736 : ℝ) : EReal)
  | _ => none
-- ==== ReferenceIdeal.lean ====
abbrev S2x1x96x96x96 : Shape := ⟨5, ![2, 1, 96, 96, 96]⟩
abbrev S32 : Shape := ⟨1, ![32]⟩
abbrev S_ : Shape := ⟨0, ![]⟩
abbrev S2x884736 : Shape := ⟨2, ![2, 884736]⟩
abbrev S2x884736x1 : Shape := ⟨3, ![2, 884736, 1]⟩
abbrev S1x1x32 : Shape := ⟨3, ![1, 1, 32]⟩
abbrev S2x884736x32 : Shape := ⟨3, ![2, 884736, 32]⟩
abbrev S2x32x32 : Shape := ⟨3, ![2, 32, 32]⟩
abbrev S2x32 : Shape := ⟨2, ![2, 32]⟩
abbrev S2x1x32 : Shape := ⟨3, ![2, 1, 32]⟩
abbrev S2 : Shape := ⟨1, ![2]⟩

abbrev nBuf : Space → Nat
  | .hbm => 80
  | .vmem => 0
  | .smem => 0
  | _ => 0

abbrev bufTy : (tb : Table) → Fin (tcTables nBuf tb) → BufTy
  | .hbm, ⟨0, _⟩ => ⟨S2x1x96x96x96, .f32⟩
  | .hbm, ⟨1, _⟩ => ⟨S2x1x96x96x96, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2x884736, .f32⟩
  | .hbm, ⟨13, _⟩ => ⟨S2x884736, .f32⟩
  | .hbm, ⟨14, _⟩ => ⟨S2x884736x1, .f32⟩
  | .hbm, ⟨15, _⟩ => ⟨S1x1x32, .f32⟩
  | .hbm, ⟨16, _⟩ => ⟨S2x884736x32, .f32⟩
  | .hbm, ⟨17, _⟩ => ⟨S2x884736x32, .f32⟩
  | .hbm, ⟨18, _⟩ => ⟨S2x884736x32, .f32⟩
  | .hbm, ⟨19, _⟩ => ⟨S_, .f32⟩
  | .hbm, ⟨20, _⟩ => ⟨S2x884736x32, .f32⟩
  | .hbm, ⟨21, _⟩ => ⟨S2x884736x32, .f32⟩
  | .hbm, ⟨22, _⟩ => ⟨S2x884736x32, .f32⟩
  | .hbm, ⟨23, _⟩ => ⟨S2x884736x32, .f32⟩
  | .hbm, ⟨24, _⟩ => ⟨S_, .f32⟩
  | .hbm, ⟨25, _⟩ => ⟨S2x884736, .f32⟩
  | .hbm, ⟨26, _⟩ => ⟨S2x884736x1, .f32⟩
  | .hbm, ⟨27, _⟩ => ⟨S2x884736x32, .f32⟩
  | .hbm, ⟨28, _⟩ => ⟨S2x884736x32, .f32⟩
  | .hbm, ⟨29, _⟩ => ⟨S2x884736x1, .f32⟩
  | .hbm, ⟨30, _⟩ => ⟨S1x1x32, .f32⟩
  | .hbm, ⟨31, _⟩ => ⟨S2x884736x32, .f32⟩
  | .hbm, ⟨32, _⟩ => ⟨S2x884736x32, .f32⟩
  | .hbm, ⟨33, _⟩ => ⟨S2x884736x32, .f32⟩
  | .hbm, ⟨34, _⟩ => ⟨S_, .f32⟩
  | .hbm, ⟨35, _⟩ => ⟨S2x884736x32, .f32⟩
  | .hbm, ⟨36, _⟩ => ⟨S2x884736x32, .f32⟩
  | .hbm, ⟨37, _⟩ => ⟨S2x884736x32, .f32⟩
  | .hbm, ⟨38, _⟩ => ⟨S2x884736x32, .f32⟩
  | .hbm, ⟨39, _⟩ => ⟨S_, .f32⟩
  | .hbm, ⟨40, _⟩ => ⟨S2x884736, .f32⟩
  | .hbm, ⟨41, _⟩ => ⟨S2x884736x1, .f32⟩
  | .hbm, ⟨42, _⟩ => ⟨S2x884736x32, .f32⟩
  | .hbm, ⟨43, _⟩ => ⟨S2x884736x32, .f32⟩
  | .hbm, ⟨44, _⟩ => ⟨S2x32x32, .f32⟩
  | .hbm, ⟨45, _⟩ => ⟨S_, .f32⟩
  | .hbm, ⟨46, _⟩ => ⟨S2x32x32, .f32⟩
  | .hbm, ⟨47, _⟩ => ⟨S2x32x32, .f32⟩
  | .hbm, ⟨48, _⟩ => ⟨S_, .f32⟩
  | .hbm, ⟨49, _⟩ => ⟨S2x32, .f32⟩
  | .hbm, ⟨50, _⟩ => ⟨S2x1x32, .f32⟩
  | .hbm, ⟨51, _⟩ => ⟨S_, .f32⟩
  | .hbm, ⟨52, _⟩ => ⟨S2x1x32, .f32⟩
  | .hbm, ⟨53, _⟩ => ⟨S2x1x32, .f32⟩
  | .hbm, ⟨54, _⟩ => ⟨S_, .f32⟩
  | .hbm, ⟨55, _⟩ => ⟨S2x32, .f32⟩
  | .hbm, ⟨56, _⟩ => ⟨S2x1x32, .f32⟩
  | .hbm, ⟨57, _⟩ => ⟨S_, .f32⟩
  | .hbm, ⟨58, _⟩ => ⟨S2x1x32, .f32⟩
  | .hbm, ⟨59, _⟩ => ⟨S2x1x32, .f32⟩
  | .hbm, ⟨60, _⟩ => ⟨S2x32x32, .f32⟩
  | .hbm, ⟨61, _⟩ => ⟨S_, .f32⟩
  | .hbm, ⟨62, _⟩ => ⟨S2x32x32, .f32⟩
  | .hbm, ⟨63, _⟩ => ⟨S2x32x32, .f32⟩
  | .hbm, ⟨64, _⟩ => ⟨S_, .f32⟩
  | .hbm, ⟨65, _⟩ => ⟨S2x32x32, .f32⟩
  | .hbm, ⟨66, _⟩ => ⟨S2x32x32, .f32⟩
  | .hbm, ⟨67, _⟩ => ⟨S2x32x32, .f32⟩
  | .hbm, ⟨68, _⟩ => ⟨S_, .f32⟩
  | .hbm, ⟨69, _⟩ => ⟨S2x32x32, .f32⟩
  | .hbm, ⟨70, _⟩ => ⟨S2x32x32, .f32⟩
  | .hbm, ⟨71, _⟩ => ⟨S2x32x32, .f32⟩
  | .hbm, ⟨72, _⟩ => ⟨S2x32x32, .f32⟩
  | .hbm, ⟨73, _⟩ => ⟨S_, .f32⟩
  | .hbm, ⟨74, _⟩ => ⟨S2, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S2x1x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_v39 : Ref sig .tc := ⟨.hbm, 50, rfl⟩
abbrev main_cst_8 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_v48 : Ref sig .tc := ⟨.hbm, 63, rfl⟩
abbrev main_cst_12 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_13 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_14 : Ref sig .tc := ⟨.hbm, 73, rfl⟩
abbrev main_v56 : Ref sig .tc := ⟨.hbm, 74, rfl⟩
abbrev main_cst_15 : Ref sig .tc := ⟨.hbm, 75, rfl⟩
abbrev main_v57 : Ref sig .tc := ⟨.hbm, 76, rfl⟩
abbrev main_cst_16 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Proof.Runs.lean ====
/- The claims that say nothing of values: each program runs, ends with its arguments unchanged and every
   counter at zero, and each constant the idealized kernel names has the value its name denotes. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Runs

open Idealize.ShloMosaic Idealize.SL.Sem

/-- The kernel as printed runs and leaves both images alone. -/
theorem frame_kernel : Cert.quiescent_Kernel := fun m ρ _ => Cert.Kernel.Gen.frame m ρ

/-- So does the idealized kernel. -/
theorem frame_kernel_ideal : Cert.quiescent_KernelIdeal := fun m ρ _ => Cert.KernelIdeal.Gen.frame m ρ

/-- The idealized reference, from any memory: its run is the host's straight line, and it declares no counter. -/
theorem frame_reference_any (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized reference runs and leaves both images alone. -/
theorem frame_reference : Cert.quiescent_ReferenceIdeal := fun m ρ _ => frame_reference_any m ρ

/-- The two named constants: `c2` is minus 512 over the natural logarithm of two, `inv_n` is one over the voxel count. -/
theorem preserves : Cert.preserves_Kernel_KernelIdeal :=
  ⟨IdealRules.named_const.statement Cert.KernelIdeal.κ "c2" .f32 0xC438AA3B#32 ((-(512 * (Real.log 2)⁻¹) : ℝ) : EReal) rfl,
   IdealRules.named_const.statement Cert.KernelIdeal.κ "inv_n" .f32 0x3597B426#32 ((1 / 884736 : ℝ) : EReal) rfl⟩

end Cert.Runs

end
-- ==== Proof.Consts.lean ====
/- The float literals of the two programs, as the extended reals they denote, and the two named constants. -/
module

public import proofs.«01_k».proof.Proof.Gen.KernelIdeal.Skeleton
public import Idealize.ShloMosaic.Lib.Pointwise

@[expose] public section

noncomputable section

namespace Cert.Consts

open Idealize.ShloMosaic

theorem half : Ideal.ofBits .f32 0x3F000000#32 = ((1 / 2 : ℝ) : EReal) := by
  simp [Ideal.ofBits, Ideal.ieee, -EReal.coe_mul]; norm_num

theorem thirtyTwo : Ideal.ofBits .f32 0x42000000#32 = ((32 : ℝ) : EReal) := by
  simp [Ideal.ofBits, Ideal.ieee, -EReal.coe_mul]; norm_num

theorem inv32 : Ideal.ofBits .f32 0x3D000000#32 = ((1 / 32 : ℝ) : EReal) := by
  simp [Ideal.ofBits, Ideal.ieee, -EReal.coe_mul]; norm_num

theorem neg512 : Ideal.ofBits .f32 0xC4000000#32 = ((-512 : ℝ) : EReal) := by
  simp [Ideal.ofBits, Ideal.ieee, -EReal.coe_mul]; norm_num

theorem count : Ideal.ofBits .f32 0x49580000#32 = ((884736 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem top : Ideal.ofBits .f32 0x7F800000#32 = ⊤ := by
  simp [Ideal.ofBits, Ideal.ieee]

/-- The small number both programs add against a division by nothing: the float nearest to `1e-7`. -/
def small : ℝ := 14073749 / 2 ^ 47

theorem small_pos : 0 < small := by unfold small; positivity

theorem eps : Ideal.ofBits .f32 0x33D6BF95#32 = (small : EReal) := by
  simp [Ideal.ofBits, Ideal.ieee, small, -EReal.coe_mul]; norm_num

theorem named_c2 : (Named.named (F := Ideal) Cert.KernelIdeal.κ "c2" 0xC438AA3B#32 : Ideal .f32)
    = ((-(512 * (Real.log 2)⁻¹) : ℝ) : EReal) :=
  IdealRules.named_const.ideal_named_scalar _ _ _ _ rfl

theorem named_inv_n : (Named.named (F := Ideal) Cert.KernelIdeal.κ "inv_n" 0x3597B426#32 : Ideal .f32)
    = ((1 / 884736 : ℝ) : EReal) :=
  IdealRules.named_const.ideal_named_scalar _ _ _ _ rfl

end Cert.Consts

end
-- ==== Proof.Step.lean ====
/- What one grid point of the idealized kernel leaves behind, as named functions of the two blocks it reads and of
   what the point before left: two rows of each block are weighed in turn and added to the three histograms. -/
module

public import proofs.«01_k».proof.Proof.Gen.KernelIdeal.Frame
public import Idealize.ShloMosaic.Lib.Pipeline.ValueKit

@[expose] public section

noncomputable section

namespace Cert.KernelIdeal.Step

open Cert.KernelIdeal Cert.KernelIdeal.Gen Idealize.ShloMosaic Idealize.ShloMosaic.TcCoe Idealize.SL.Sem

variable {F : FTy → Type} [FloatOps F] [Named F]

/-- Row 0 of a block, as the body loads it. -/
def row0 (x : Vec F S1x2x16384 .f32) : Vec F S1x1x16384 .f32 :=
  View.ld x (Rect.unit (s := S1x2x16384) ![0, 0, 0] S1x1x16384.size inb_S1x2x16384_S1x1x16384_0_0_0)

/-- Row 1 of a block, as the body loads it. -/
def row1 (x : Vec F S1x2x16384 .f32) : Vec F S1x1x16384 .f32 :=
  View.ld x (Rect.unit (s := S1x2x16384) ![0, 1, 0] S1x1x16384.size inb_S1x2x16384_S1x1x16384_0_1_0)

/-- The cleared joint histogram. -/
abbrev zero32 : Vec F S32x32 .f32 := k0_pay8
/-- A cleared marginal histogram. -/
abbrev zero1 : Vec F S32x1 .f32 := k0_pay9

/-- The first image's histogram `a` after a point reading block `x`. -/
def mass0 (x : Vec F S1x2x16384 .f32) (a : Vec F S32x1 .f32) : Vec F S32x1 .f32 :=
  k0_pay2 (k0_pay17 k0_pay7 (row1 x)) (k0_pay14 (k0_pay13 (row0 x) a))

/-- The second image's histogram `a` after a point reading block `x`. -/
def mass1 (x : Vec F S1x2x16384 .f32) (a : Vec F S32x1 .f32) : Vec F S32x1 .f32 :=
  k0_pay3 (k0_pay18 k0_pay7 (row1 x)) (k0_pay15 (k0_pay12 (row0 x)) a)

/-- The joint histogram `a` after a point reading blocks `x` and `y`. -/
def joint (x y : Vec F S1x2x16384 .f32) (a : Vec F S32x32 .f32) : Vec F S32x32 .f32 :=
  k0_pay4 (k0_pay17 k0_pay7 (row1 x)) (k0_pay18 k0_pay7 (row1 y)) (k0_pay16 (k0_pay11 (row0 x)) (k0_pay12 (row0 y)) a)

/-! ### The first point of a batch: the histograms are cleared first. -/

/-- The first point of a batch: the histograms are cleared first. What it leaves in the joint histogram. -/
theorem left_A_0 (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : cond0_0 i) (hc1 : ¬cond0_1 i)
    (x0 x1 : Vec F S1x2x16384 .f32)  :
    sout0_A_0 c i arg2 harg2 arg3 harg3 arg4 harg4 arg5 harg5 arg6 harg6 arg7 harg7 hc0 hc1 x0 x1  = joint x0 x1 zero32 := by
  frame_out
  rfl

/-- The first point of a batch: the histograms are cleared first. What it leaves in the first image's histogram. -/
theorem left_A_1 (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : cond0_0 i) (hc1 : ¬cond0_1 i)
    (x0 x1 : Vec F S1x2x16384 .f32)  :
    sout0_A_1 c i arg2 harg2 arg3 harg3 arg4 harg4 arg5 harg5 arg6 harg6 arg7 harg7 hc0 hc1 x0 x1  = mass0 x0 zero1 := by
  frame_out
  rfl

/-- The first point of a batch: the histograms are cleared first. What it leaves in the second image's histogram. -/
theorem left_A_2 (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : cond0_0 i) (hc1 : ¬cond0_1 i)
    (x0 x1 : Vec F S1x2x16384 .f32)  :
    sout0_A_2 c i arg2 harg2 arg3 harg3 arg4 harg4 arg5 harg5 arg6 harg6 arg7 harg7 hc0 hc1 x0 x1  = mass1 x1 zero1 := by
  frame_out
  rfl

/-! ### A point inside a batch. -/

/-- A point inside a batch. What it leaves in the joint histogram. -/
theorem left_B_0 (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : ¬cond0_0 i) (hc1 : ¬cond0_1 i)
    (x0 x1 : Vec F S1x2x16384 .f32) (xs0 : Vec F S32x32 .f32) (xs1 : Vec F S32x1 .f32) (xs2 : Vec F S32x1 .f32) :
    sout0_B_0 c i arg2 harg2 arg3 harg3 arg4 harg4 arg5 harg5 arg6 harg6 arg7 harg7 hc0 hc1 x0 x1 xs0 xs1 xs2 = joint x0 x1 xs0 := by
  frame_out
  rfl

/-- A point inside a batch. What it leaves in the first image's histogram. -/
theorem left_B_1 (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : ¬cond0_0 i) (hc1 : ¬cond0_1 i)
    (x0 x1 : Vec F S1x2x16384 .f32) (xs0 : Vec F S32x32 .f32) (xs1 : Vec F S32x1 .f32) (xs2 : Vec F S32x1 .f32) :
    sout0_B_1 c i arg2 harg2 arg3 harg3 arg4 harg4 arg5 harg5 arg6 harg6 arg7 harg7 hc0 hc1 x0 x1 xs0 xs1 xs2 = mass0 x0 xs1 := by
  frame_out
  rfl

/-- A point inside a batch. What it leaves in the second image's histogram. -/
theorem left_B_2 (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : ¬cond0_0 i) (hc1 : ¬cond0_1 i)
    (x0 x1 : Vec F S1x2x16384 .f32) (xs0 : Vec F S32x32 .f32) (xs1 : Vec F S32x1 .f32) (xs2 : Vec F S32x1 .f32) :
    sout0_B_2 c i arg2 harg2 arg3 harg3 arg4 harg4 arg5 harg5 arg6 harg6 arg7 harg7 hc0 hc1 x0 x1 xs0 xs1 xs2 = mass1 x1 xs2 := by
  frame_out
  rfl

/-! ### The last point of the first batch. -/

/-- The last point of the first batch. What it leaves in the joint histogram. -/
theorem left_C_0 (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : ¬cond0_0 i) (hc1 : cond0_1 i) (hc2 : cond0_2 i)
    (x0 x1 : Vec F S1x2x16384 .f32) (xs0 : Vec F S32x32 .f32) (xs1 : Vec F S32x1 .f32) (xs2 : Vec F S32x1 .f32) :
    sout0_C_0 c i arg2 harg2 arg3 harg3 arg4 harg4 arg5 harg5 arg6 harg6 arg7 harg7 hc0 hc1 hc2 x0 x1 xs0 xs1 xs2 = joint x0 x1 xs0 := by
  frame_out
  rfl

/-- The last point of the first batch. What it leaves in the first image's histogram. -/
theorem left_C_1 (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : ¬cond0_0 i) (hc1 : cond0_1 i) (hc2 : cond0_2 i)
    (x0 x1 : Vec F S1x2x16384 .f32) (xs0 : Vec F S32x32 .f32) (xs1 : Vec F S32x1 .f32) (xs2 : Vec F S32x1 .f32) :
    sout0_C_1 c i arg2 harg2 arg3 harg3 arg4 harg4 arg5 harg5 arg6 harg6 arg7 harg7 hc0 hc1 hc2 x0 x1 xs0 xs1 xs2 = mass0 x0 xs1 := by
  frame_out
  rfl

/-- The last point of the first batch. What it leaves in the second image's histogram. -/
theorem left_C_2 (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : ¬cond0_0 i) (hc1 : cond0_1 i) (hc2 : cond0_2 i)
    (x0 x1 : Vec F S1x2x16384 .f32) (xs0 : Vec F S32x32 .f32) (xs1 : Vec F S32x1 .f32) (xs2 : Vec F S32x1 .f32) :
    sout0_C_2 c i arg2 harg2 arg3 harg3 arg4 harg4 arg5 harg5 arg6 harg6 arg7 harg7 hc0 hc1 hc2 x0 x1 xs0 xs1 xs2 = mass1 x1 xs2 := by
  frame_out
  rfl

/-- The last point of the first batch. What it leaves in the result. -/
theorem result_C (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : ¬cond0_0 i) (hc1 : cond0_1 i) (hc2 : cond0_2 i)
    (x0 x1 : Vec F S1x2x16384 .f32) (xs0 : Vec F S32x32 .f32) (xs1 : Vec F S32x1 .f32) (xs2 : Vec F S32x1 .f32) :
    out0_C_2 c i arg2 harg2 arg3 harg3 arg4 harg4 arg5 harg5 arg6 harg6 arg7 harg7 hc0 hc1 hc2 x0 x1 xs0 xs1 xs2 = k0_pay6 (joint x0 x1 xs0) (mass0 x0 xs1) (mass1 x1 xs2) k0_pay5 := by
  frame_out
  rfl

/-! ### The last point of the second batch. -/

/-- The last point of the second batch. What it leaves in the joint histogram. -/
theorem left_D_0 (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : ¬cond0_0 i) (hc1 : cond0_1 i) (hc2 : ¬cond0_2 i)
    (x0 x1 : Vec F S1x2x16384 .f32) (xo2 : Vec F S1x1 .f32) (xs0 : Vec F S32x32 .f32) (xs1 : Vec F S32x1 .f32) (xs2 : Vec F S32x1 .f32) :
    sout0_D_0 c i arg2 harg2 arg3 harg3 arg4 harg4 arg5 harg5 arg6 harg6 arg7 harg7 hc0 hc1 hc2 x0 x1 xo2 xs0 xs1 xs2 = joint x0 x1 xs0 := by
  frame_out
  rfl

/-- The last point of the second batch. What it leaves in the first image's histogram. -/
theorem left_D_1 (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : ¬cond0_0 i) (hc1 : cond0_1 i) (hc2 : ¬cond0_2 i)
    (x0 x1 : Vec F S1x2x16384 .f32) (xo2 : Vec F S1x1 .f32) (xs0 : Vec F S32x32 .f32) (xs1 : Vec F S32x1 .f32) (xs2 : Vec F S32x1 .f32) :
    sout0_D_1 c i arg2 harg2 arg3 harg3 arg4 harg4 arg5 harg5 arg6 harg6 arg7 harg7 hc0 hc1 hc2 x0 x1 xo2 xs0 xs1 xs2 = mass0 x0 xs1 := by
  frame_out
  rfl

/-- The last point of the second batch. What it leaves in the second image's histogram. -/
theorem left_D_2 (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : ¬cond0_0 i) (hc1 : cond0_1 i) (hc2 : ¬cond0_2 i)
    (x0 x1 : Vec F S1x2x16384 .f32) (xo2 : Vec F S1x1 .f32) (xs0 : Vec F S32x32 .f32) (xs1 : Vec F S32x1 .f32) (xs2 : Vec F S32x1 .f32) :
    sout0_D_2 c i arg2 harg2 arg3 harg3 arg4 harg4 arg5 harg5 arg6 harg6 arg7 harg7 hc0 hc1 hc2 x0 x1 xo2 xs0 xs1 xs2 = mass1 x1 xs2 := by
  frame_out
  rfl

/-- The last point of the second batch. What it leaves in the result. -/
theorem result_D (c : Dev nD) (i : grid0.Coords) (arg2 : Memref sig .tc .vmem S1x2x16384 .f32) (harg2 : arg2.IsWhole) (arg3 : Memref sig .tc .vmem S1x2x16384 .f32) (harg3 : arg3.IsWhole)
    (arg4 : Memref sig .tc .vmem S1x1 .f32) (harg4 : arg4.IsWhole) (arg5 : Memref sig .tc .vmem S32x32 .f32) (harg5 : arg5.IsWhole)
    (arg6 : Memref sig .tc .vmem S32x1 .f32) (harg6 : arg6.IsWhole) (arg7 : Memref sig .tc .vmem S32x1 .f32) (harg7 : arg7.IsWhole) (hc0 : ¬cond0_0 i) (hc1 : cond0_1 i) (hc2 : ¬cond0_2 i)
    (x0 x1 : Vec F S1x2x16384 .f32) (xo2 : Vec F S1x1 .f32) (xs0 : Vec F S32x32 .f32) (xs1 : Vec F S32x1 .f32) (xs2 : Vec F S32x1 .f32) :
    out0_D_2 c i arg2 harg2 arg3 harg3 arg4 harg4 arg5 harg5 arg6 harg6 arg7 harg7 hc0 hc1 hc2 x0 x1 xo2 xs0 xs1 xs2 = k0_pay6 (joint x0 x1 xs0) (mass0 x0 xs1) (mass1 x1 xs2) xo2 := by
  frame_out
  rfl

end Cert.KernelIdeal.Step

end
-- ==== Proof.Spec.lean ====
/- The soft histograms and the mutual information they give, over the real numbers: what both programs compute. -/
module

public import Mathlib.Analysis.SpecialFunctions.Pow.Real
public import Mathlib.Analysis.SpecialFunctions.Log.Basic
public import Mathlib.Data.EReal.Operations
public import Mathlib.Algebra.BigOperators.Intervals
public import Mathlib.Algebra.Order.BigOperators.Group.Finset

@[expose] public section

noncomputable section

namespace Cert.Spec

open Finset

/-- The middle of bin `i` of the thirty-two bins of the unit interval. -/
def center (i : Fin 32) : ℝ := ((i.val : ℝ) + 1 / 2) / 32

/-- How near the intensity `x` lies to the middle of bin `i`. -/
def bell (x : ℝ) (i : Fin 32) : ℝ := Real.exp (-512 * (x - center i) * (x - center i))

/-- The share of the intensity `x` that falls to bin `i`. -/
def share (x : ℝ) (i : Fin 32) : ℝ := bell x i / ∑ j, bell x j

theorem bell_pos (x : ℝ) (i : Fin 32) : 0 < bell x i := Real.exp_pos _

theorem sum_bell_pos (x : ℝ) : 0 < ∑ j, bell x j :=
  Finset.sum_pos (fun j _ => bell_pos x j) Finset.univ_nonempty

theorem share_nonneg (x : ℝ) (i : Fin 32) : 0 ≤ share x i :=
  div_nonneg (bell_pos x i).le (sum_bell_pos x).le

/-- The bell as a power of two, with the scale `512 / log 2`. -/
theorem rpow_eq_bell (x : ℝ) (i : Fin 32) :
    Real.rpow 2 (-(512 * (Real.log 2)⁻¹) * ((x - center i) * (x - center i))) = bell x i := by
  have h2 : Real.log 2 ≠ 0 := (Real.log_pos one_lt_two).ne'
  show (2 : ℝ) ^ (-(512 * (Real.log 2)⁻¹) * ((x - center i) * (x - center i))) = _
  rw [Real.rpow_def_of_pos two_pos, bell]
  congr 1
  field_simp

/-- The mass of bin `i` over the first `n` intensities of `f`. -/
def mass (f : ℕ → ℝ) (n : ℕ) (i : Fin 32) : ℝ := ∑ k ∈ range n, share (f k) i

/-- The joint mass of bins `i` and `j` over the first `n` pairs of intensities of `f` and `g`. -/
def pair (f g : ℕ → ℝ) (n : ℕ) (i j : Fin 32) : ℝ := ∑ k ∈ range n, share (f k) i * share (g k) j

theorem mass_nonneg (f : ℕ → ℝ) (n : ℕ) (i : Fin 32) : 0 ≤ mass f n i :=
  Finset.sum_nonneg fun _ _ => share_nonneg _ _

theorem pair_nonneg (f g : ℕ → ℝ) (n : ℕ) (i j : Fin 32) : 0 ≤ pair f g n i j :=
  Finset.sum_nonneg fun _ _ => mul_nonneg (share_nonneg _ _) (share_nonneg _ _)

/-- One more stretch of intensities adds its own mass. -/
theorem mass_add (f : ℕ → ℝ) (n k : ℕ) (i : Fin 32) :
    mass f (n + k) i = mass f n i + mass (fun a => f (n + a)) k i := Finset.sum_range_add _ _ _

/-- One more stretch of pairs adds its own joint mass. -/
theorem pair_add (f g : ℕ → ℝ) (n k : ℕ) (i j : Fin 32) :
    pair f g (n + k) i j = pair f g n i j + pair (fun a => f (n + a)) (fun a => g (n + a)) k i j :=
  Finset.sum_range_add _ _ _

/-- What bins `i` and `j` add to the mutual information, `s` guarding the divisions and the logarithm. -/
def term (s p a b : ℝ) : ℝ :=
  p * (1 / 884736) * Real.log ((p * (1 / 884736) + s) * (1 / (a * (1 / 884736) * (b * (1 / 884736)) + s)) + s)

theorem inside_pos {s p a b : ℝ} (hs : 0 < s) (hp : 0 ≤ p) (ha : 0 ≤ a) (hb : 0 ≤ b) :
    0 < (p * (1 / 884736) + s) * (1 / (a * (1 / 884736) * (b * (1 / 884736)) + s)) + s := by positivity

theorem below_pos {s a b : ℝ} (hs : 0 < s) (ha : 0 ≤ a) (hb : 0 ≤ b) :
    0 < a * (1 / 884736) * (b * (1 / 884736)) + s := by positivity

/-- The mutual information of a joint histogram and its two marginal ones. -/
def info (s : ℝ) (p : Fin 32 → Fin 32 → ℝ) (a b : Fin 32 → ℝ) : ℝ := ∑ i, ∑ j, term s (p i j) (a i) (b j)

/-- The mutual information of two images of 884736 intensities. -/
def mi (s : ℝ) (f g : ℕ → ℝ) : ℝ := info s (pair f g 884736) (mass f 884736) (mass g 884736)

/-- A sum of reals, read as extended reals. -/
theorem coe_sum {α : Type*} (t : Finset α) (f : α → ℝ) : ((∑ a ∈ t, f a : ℝ) : EReal) = ∑ a ∈ t, (f a : EReal) := by
  classical
  induction t using Finset.induction_on with
  | empty => simp
  | insert a t h ih => rw [Finset.sum_insert h, Finset.sum_insert h, EReal.coe_add, ih]

end Cert.Spec

end
-- ==== Proof.Weigh.lean ====
/- The kernel's arithmetic at the ideal values, one operation group at a time, when what it reads is real. -/
module

public import proofs.«01_k».proof.Proof.Step
public import proofs.«01_k».proof.Proof.Consts
public import proofs.«01_k».proof.Proof.Spec

@[expose] public section

noncomputable section

namespace Cert.KernelIdeal.Weigh

open Cert.KernelIdeal Cert.KernelIdeal.Gen Cert.KernelIdeal.Step Idealize.ShloMosaic Finset

/-! ### The shares of a row -/

theorem shares11 (x : Vec Ideal S1x1x16384 .f32) : k0_pay11 (F := Ideal) x = k0_pay17 k0_pay7 x := rfl
theorem shares12 (x : Vec Ideal S1x1x16384 .f32) : k0_pay12 (F := Ideal) x = k0_pay17 k0_pay7 x := rfl
theorem shares18 (x : Vec Ideal S1x1x16384 .f32) : k0_pay1 (F := Ideal) (k0_pay18 k0_pay7 x) = k0_pay17 k0_pay7 x := rfl

/-- The integer of a bin, read back from its 32-bit word. -/
theorem toInt_bin (i : Fin 32) : (BitVec.ofNat 32 i.val).toInt = (i.val : ℤ) := by
  revert i; decide

/-- The middles of the bins. -/
theorem centers (i : Fin 32) : k0_pay7 (F := Ideal) (ix2 i 0) = (Cert.Spec.center i : EReal) := by
  pointwise [k0_pay7]
  show Ideal.div ((((BitVec.ofNat 32 i.val).toInt : ℝ) : EReal) + _) _ = _
  rw [Consts.half, Consts.thirtyTwo, Ideal.div_coe (by norm_num), toInt_bin, ← EReal.coe_add, ← EReal.coe_mul,
    Spec.center]
  congr 1
  push_cast
  ring

/-- The shares of a row of real intensities. -/
theorem shares (x : Vec Ideal S1x1x16384 .f32) (r : Fin 16384 → ℝ) (hx : ∀ k, x (ix3 0 0 k) = (r k : EReal))
    (i : Fin 32) (k : Fin 16384) :
    k0_pay17 (F := Ideal) k0_pay7 x (ix2 i k) = (Cert.Spec.share (r k) i : EReal) := by
  have bell (j : Fin 32) : FloatOps.exp2 (F := Ideal) (φ := .f32) (Named.named (F := Ideal) κ "c2" 0xC438AA3B#32 *
        ((x (ix3 0 0 k) - k0_pay7 (F := Ideal) (ix2 j 0)) * (x (ix3 0 0 k) - k0_pay7 (F := Ideal) (ix2 j 0))))
      = (Spec.bell (r k) j : EReal) := by
    rw [Consts.named_c2, centers, hx, ← EReal.coe_sub, ← EReal.coe_mul, ← EReal.coe_mul, ← Spec.rpow_eq_bell]
    rfl
  pointwise [k0_pay17]
  simp only [bell]
  rw [← Spec.coe_sum, Ideal.div_coe (Spec.sum_bell_pos _).ne', ← EReal.coe_mul, Spec.share, mul_one_div]

/-! ### What a point adds -/

theorem row0_at (x : Vec Ideal S1x2x16384 .f32) (k : Fin 16384) : row0 x (ix3 0 0 k) = x (ix3 0 0 k) := by
  pointwise [row0]

theorem row1_at (x : Vec Ideal S1x2x16384 .f32) (k : Fin 16384) : row1 x (ix3 0 0 k) = x (ix3 0 1 k) := by
  pointwise [row1]

/-- Block `x` holds the 32768 real intensities `r`, row after row. -/
def Holds (x : Vec Ideal S1x2x16384 .f32) (r : ℕ → ℝ) : Prop :=
  ∀ (g : Fin 2) (k : Fin 16384), x (ix3 0 g k) = (r (g.val * 16384 + k.val) : EReal)

theorem shares_row0 {x : Vec Ideal S1x2x16384 .f32} {r : ℕ → ℝ} (h : Holds x r) (i : Fin 32) (k : Fin 16384) :
    k0_pay17 (F := Ideal) k0_pay7 (row0 x) (ix2 i k) = (Spec.share (r k) i : EReal) :=
  shares _ (fun k => r k.val) (fun k => by rw [row0_at, h 0 k]; congr 2; simp) i k

theorem shares_row1 {x : Vec Ideal S1x2x16384 .f32} {r : ℕ → ℝ} (h : Holds x r) (i : Fin 32) (k : Fin 16384) :
    k0_pay17 (F := Ideal) k0_pay7 (row1 x) (ix2 i k) = (Spec.share (r (16384 + k)) i : EReal) :=
  shares _ (fun k => r (16384 + k.val)) (fun k => by rw [row1_at, h 1 k]; congr 2) i k

/-- A sum over the 32768 intensities of a block, as the kernel takes it: one row, then the other. -/
theorem sum_rows (f : ℕ → ℝ) (a : ℝ) :
    (a : EReal) + (∑ k : Fin 16384, (f k : EReal)) + (∑ k : Fin 16384, (f (16384 + k) : EReal))
      = ((a + ∑ n ∈ range 32768, f n : ℝ) : EReal) := by
  rw [show 32768 = 16384 + 16384 from rfl, Finset.sum_range_add, ← add_assoc, EReal.coe_add, EReal.coe_add,
    Finset.sum_range, Finset.sum_range, Spec.coe_sum, Spec.coe_sum]

theorem mass0_at {x : Vec Ideal S1x2x16384 .f32} {r : ℕ → ℝ} (h : Holds x r) (a : Vec Ideal S32x1 .f32) (i : Fin 32)
    (α : ℝ) (ha : a (ix2 i 0) = (α : EReal)) :
    mass0 x a (ix2 i 0) = ((α + Spec.mass r 32768 i : ℝ) : EReal) := by
  pointwise [mass0, k0_pay2, k0_pay14, k0_pay13]
  simp only [shares11, shares_row0 h, shares_row1 h, ha]
  exact sum_rows (fun n => Spec.share (r n) i) α

theorem mass1_at {x : Vec Ideal S1x2x16384 .f32} {r : ℕ → ℝ} (h : Holds x r) (a : Vec Ideal S32x1 .f32) (i : Fin 32)
    (α : ℝ) (ha : a (ix2 i 0) = (α : EReal)) :
    mass1 x a (ix2 i 0) = ((α + Spec.mass r 32768 i : ℝ) : EReal) := by
  unfold mass1 k0_pay3
  rw [shares18, shares12]
  pointwise [k0_pay15]
  simp only [shares_row0 h, shares_row1 h, ha]
  exact sum_rows (fun n => Spec.share (r n) i) α

theorem joint_at {x y : Vec Ideal S1x2x16384 .f32} {r q : ℕ → ℝ} (h : Holds x r) (h' : Holds y q)
    (a : Vec Ideal S32x32 .f32) (i j : Fin 32) (α : ℝ) (ha : a (ix2 i j) = (α : EReal)) :
    joint x y a (ix2 i j) = ((α + Spec.pair r q 32768 i j : ℝ) : EReal) := by
  unfold joint k0_pay4
  rw [shares18, shares11, shares12]
  pointwise [k0_pay16]
  simp only [shares_row0 h, shares_row1 h, shares_row0 h', shares_row1 h', ha, ← EReal.coe_mul]
  exact sum_rows (fun n => Spec.share (r n) i * Spec.share (q n) j) α

/-! ### What the last point of a batch makes of the histograms -/

theorem zero32_at (i j : Fin 32) : zero32 (F := Ideal) (ix2 i j) = ((0 : ℝ) : EReal) := by
  pointwise [zero32, k0_pay8]
  rfl

theorem zero1_at (i : Fin 32) : zero1 (F := Ideal) (ix2 i 0) = ((0 : ℝ) : EReal) := by
  pointwise [zero1, k0_pay9]
  rfl

theorem zero_at : k0_pay5 (F := Ideal) (ix2 0 0) = ((0 : ℝ) : EReal) := by
  pointwise [k0_pay5]
  rfl

/-- One summand of the mutual information, as the programs form it from scaled masses. -/
theorem term_at {s p a b : ℝ} (hs : 0 < s) (hp : 0 ≤ p) (ha : 0 ≤ a) (hb : 0 ≤ b) :
    (p : EReal) * ((1 / 884736 : ℝ) : EReal) *
        Ideal.log (Ideal.div ((p : EReal) * ((1 / 884736 : ℝ) : EReal) + (s : EReal))
          ((a : EReal) * ((1 / 884736 : ℝ) : EReal) * ((b : EReal) * ((1 / 884736 : ℝ) : EReal)) + (s : EReal)) + (s : EReal))
      = (Spec.term s p a b : EReal) := by
  simp only [← EReal.coe_mul, ← EReal.coe_add]
  rw [Ideal.div_coe (Spec.below_pos hs ha hb).ne']
  simp only [← EReal.coe_mul, ← EReal.coe_add]
  rw [Ideal.log_coe, if_neg (not_le.mpr (Spec.inside_pos hs hp ha hb)), ← EReal.coe_mul, Spec.term]

theorem result_at (v : Vec Ideal S32x32 .f32) (a b : Vec Ideal S32x1 .f32) (o : Vec Ideal S1x1 .f32)
    (p : Fin 32 → Fin 32 → ℝ) (α β : Fin 32 → ℝ) (ω : ℝ)
    (hv : ∀ i j, v (ix2 i j) = (p i j : EReal)) (ha : ∀ i, a (ix2 i 0) = (α i : EReal))
    (hb : ∀ i, b (ix2 i 0) = (β i : EReal)) (ho : o (ix2 0 0) = (ω : EReal))
    (hp : ∀ i j, 0 ≤ p i j) (hα : ∀ i, 0 ≤ α i) (hβ : ∀ i, 0 ≤ β i) :
    k0_pay6 (F := Ideal) v a b o (ix2 0 0) = ((ω + (0 - Spec.info Consts.small p α β) * (1 / 2) : ℝ) : EReal) := by
  pointwise [k0_pay6]
  rw [Consts.named_inv_n, Consts.eps, Consts.two, ho]
  simp only [hv, ha, hb, term_at Consts.small_pos (hp _ _) (hα _) (hβ _), ← Spec.coe_sum]
  rw [Ideal.div_coe (by norm_num), ← EReal.coe_zero, ← EReal.coe_sub, ← EReal.coe_mul, ← EReal.coe_add]
  rfl

end Cert.KernelIdeal.Weigh

end
-- ==== Proof.Fold.lean ====
/- The whole grid: what the three histograms and the result hold after each of the fifty-four points, when the two
   images are real. A batch's histograms start empty at its first point and grow by one block a point. -/
module

public import proofs.«01_k».proof.Proof.Weigh

@[expose] public section

noncomputable section

namespace Cert.KernelIdeal.Fold

open Cert.KernelIdeal Cert.KernelIdeal.Gen Cert.KernelIdeal.Step Cert.KernelIdeal.Weigh Idealize.ShloMosaic
open Idealize.ShloMosaic.TcCoe Idealize.SL.Sem

variable (m : (ℓ : Loc nD τ sig) → Buf (Elt Ideal) ℓ) (c : Dev nD) (X Y : ℕ → ℝ)

/-- The intensities of batch `b` of the flat sequence `f`. -/
def batch (f : ℕ → ℝ) (b : ℕ) : ℕ → ℝ := fun n => f (b * 884736 + n)

/-- The blocks the grid reads hold the flat sequences `X` and `Y`, 32768 intensities a point. -/
def Reads : Prop :=
  ∀ t : Fin cfg0.N, Holds (iblk m c 0 t) (fun n => X (t.val * 32768 + n))
    ∧ Holds (iblk m c 1 t) (fun n => Y (t.val * 32768 + n))

/-- What the histograms hold after `n` intensities of batch `b`. -/
def Grown (S : Vec Ideal S1x1 .f32 × Vec Ideal S32x32 .f32 × Vec Ideal S32x1 .f32 × Vec Ideal S32x1 .f32)
    (b n : ℕ) : Prop :=
  (∀ i j, S.2.1 (ix2 i j) = (Spec.pair (batch X b) (batch Y b) n i j : EReal))
    ∧ (∀ i, S.2.2.1 (ix2 i 0) = (Spec.mass (batch X b) n i : EReal))
    ∧ (∀ i, S.2.2.2 (ix2 i 0) = (Spec.mass (batch Y b) n i : EReal))

/-- The block of point `t` is the next stretch of its batch. -/
theorem stretch (f : ℕ → ℝ) (t : ℕ) :
    (fun a => batch f (t / 27) (t % 27 * 32768 + a)) = (fun a => f (t * 32768 + a)) := by
  funext a
  exact congrArg f (by omega)

theorem pair_step (t : ℕ) (i j : Fin 32) :
    Spec.pair (batch X (t / 27)) (batch Y (t / 27)) ((t % 27 + 1) * 32768) i j
      = Spec.pair (batch X (t / 27)) (batch Y (t / 27)) (t % 27 * 32768) i j
        + Spec.pair (fun n => X (t * 32768 + n)) (fun n => Y (t * 32768 + n)) 32768 i j := by
  rw [Nat.succ_mul, Spec.pair_add, stretch, stretch]

theorem mass_step (f : ℕ → ℝ) (t : ℕ) (i : Fin 32) :
    Spec.mass (batch f (t / 27)) ((t % 27 + 1) * 32768) i
      = Spec.mass (batch f (t / 27)) (t % 27 * 32768) i + Spec.mass (fun n => f (t * 32768 + n)) 32768 i := by
  rw [Nat.succ_mul, Spec.mass_add, stretch]

variable {m c X Y}

/-- A point that starts a batch. -/
theorem grown_first (h : Reads m c X Y) (t : Fin cfg0.N) (ht : t.val % 27 = 0) :
    Grown X Y (outsAt0 m c t.val t.isLt) (t.val / 27) ((t.val % 27 + 1) * 32768) := by
  have zp (i j) : Spec.pair (batch X (t.val / 27)) (batch Y (t.val / 27)) (t.val % 27 * 32768) i j = 0 := by
    rw [ht]; rfl
  have zm (f : ℕ → ℝ) (i) : Spec.mass (batch f (t.val / 27)) (t.val % 27 * 32768) i = 0 := by rw [ht]; rfl
  rw [outsAt0_A m c t ht (by omega)]
  refine ⟨fun i j => ?_, fun i => ?_, fun i => ?_⟩
  · dsimp only
    rw [left_A_0, joint_at (h t).1 (h t).2 _ i j 0 (zero32_at i j), pair_step, zp]
  · dsimp only
    rw [left_A_1, mass0_at (h t).1 _ i 0 (zero1_at i), mass_step, zm]
  · dsimp only
    rw [left_A_2, mass1_at (h t).2 _ i 0 (zero1_at i), mass_step, zm]

/-- A later point of a batch adds its block to what the point before left. -/
theorem grown_next (h : Reads m c X Y) (t : Fin cfg0.N) (ht : ¬t.val % 27 = 0)
    (hp : Grown X Y (outsAt0 m c (t.val - 1) (Nat.lt_of_le_of_lt (Nat.sub_le _ _) t.isLt)) (t.val / 27) (t.val % 27 * 32768)) :
    Grown X Y (outsAt0 m c t.val t.isLt) (t.val / 27) ((t.val % 27 + 1) * 32768) := by
  obtain ⟨hj, h0, h1⟩ := hp
  by_cases hl : t.val % 27 = 26
  · by_cases hb : t.val < 27
    · rw [outsAt0_C m c t ht hl hb]
      refine ⟨fun i j => ?_, fun i => ?_, fun i => ?_⟩
      · dsimp only
        rw [left_C_0, joint_at (h t).1 (h t).2 _ i j _ (hj i j), pair_step]
      · dsimp only
        rw [left_C_1, mass0_at (h t).1 _ i _ (h0 i), mass_step]
      · dsimp only
        rw [left_C_2, mass1_at (h t).2 _ i _ (h1 i), mass_step]
    · rw [outsAt0_D m c t ht hl hb]
      refine ⟨fun i j => ?_, fun i => ?_, fun i => ?_⟩
      · dsimp only
        rw [left_D_0, joint_at (h t).1 (h t).2 _ i j _ (hj i j), pair_step]
      · dsimp only
        rw [left_D_1, mass0_at (h t).1 _ i _ (h0 i), mass_step]
      · dsimp only
        rw [left_D_2, mass1_at (h t).2 _ i _ (h1 i), mass_step]
  · rw [outsAt0_B m c t ht hl]
    refine ⟨fun i j => ?_, fun i => ?_, fun i => ?_⟩
    · dsimp only
      rw [left_B_0, joint_at (h t).1 (h t).2 _ i j _ (hj i j), pair_step]
    · dsimp only
      rw [left_B_1, mass0_at (h t).1 _ i _ (h0 i), mass_step]
    · dsimp only
      rw [left_B_2, mass1_at (h t).2 _ i _ (h1 i), mass_step]

/-- After point `n` the histograms hold everything its batch has read so far. -/
theorem grown (h : Reads m c X Y) (n : ℕ) (hn : n < cfg0.N) :
    Grown X Y (outsAt0 m c n hn) (n / 27) ((n % 27 + 1) * 32768) := by
  induction n with
  | zero => exact grown_first h ⟨0, hn⟩ rfl
  | succ n ih =>
    by_cases ht : (n + 1) % 27 = 0
    · exact grown_first h ⟨n + 1, hn⟩ ht
    · refine grown_next h ⟨n + 1, hn⟩ ht ?_
      have e := ih (Nat.lt_of_succ_lt hn)
      have e1 : n / 27 = (n + 1) / 27 := by omega
      have e2 : n % 27 + 1 = (n + 1) % 27 := by omega
      rw [e1, e2] at e
      exact e

/-- What a last point makes of a finished batch. -/
theorem finished {S : Vec Ideal S1x1 .f32 × Vec Ideal S32x32 .f32 × Vec Ideal S32x1 .f32 × Vec Ideal S32x1 .f32}
    {b : ℕ} (hS : Grown X Y S b 884736) (o : Vec Ideal S1x1 .f32) (ω : ℝ) (ho : o (ix2 0 0) = (ω : EReal)) :
    k0_pay6 (F := Ideal) S.2.1 S.2.2.1 S.2.2.2 o (ix2 0 0)
      = ((ω + (0 - Spec.mi Consts.small (batch X b) (batch Y b)) * (1 / 2) : ℝ) : EReal) :=
  result_at _ _ _ _ _ _ _ _ hS.1 hS.2.1 hS.2.2 ho (fun i j => Spec.pair_nonneg _ _ _ i j)
    (fun i => Spec.mass_nonneg _ _ i) (fun i => Spec.mass_nonneg _ _ i)

/-- The result after the first batch. -/
theorem result_first (h : Reads m c X Y) (hn : 26 < cfg0.N) :
    (outsAt0 m c 26 hn).1 (ix2 0 0)
      = ((0 + (0 - Spec.mi Consts.small (batch X 0) (batch Y 0)) * (1 / 2) : ℝ) : EReal) := by
  have g := grown h 26 hn
  have e := outsAt0_C m c ⟨26, hn⟩ (by dsimp only; omega) (by dsimp only) (by dsimp only; omega)
  dsimp only at e
  rw [e] at g ⊢
  dsimp only
  rw [result_C]
  have f := finished g _ 0 zero_at
  dsimp only at f
  rw [left_C_0, left_C_1, left_C_2] at f
  exact f

/-- The result does not change before the last point. -/
theorem result_kept (k : ℕ) (hk : k < 27) (hn : 26 + k < cfg0.N) :
    (outsAt0 m c (26 + k) hn).1 = (outsAt0 m c 26 (Nat.lt_of_le_of_lt (Nat.le_add_right _ _) hn)).1 := by
  induction k with
  | zero => rfl
  | succ k ih =>
    rw [← ih (by omega) (Nat.lt_of_succ_lt hn)]
    by_cases h0 : (26 + (k + 1)) % 27 = 0
    · have e := outsAt0_A m c ⟨26 + (k + 1), hn⟩ h0 (by dsimp only; omega)
      dsimp only at e
      rw [e]
      rfl
    · have e := outsAt0_B m c ⟨26 + (k + 1), hn⟩ h0 (by dsimp only; omega)
      dsimp only at e
      rw [e]
      rfl

/-- The result after the last point. -/
theorem result_last (h : Reads m c X Y) (hn : 53 < cfg0.N) :
    (outsAt0 m c 53 hn).1 (ix2 0 0)
      = ((0 + (0 - Spec.mi Consts.small (batch X 0) (batch Y 0)) * (1 / 2)
          + (0 - Spec.mi Consts.small (batch X 1) (batch Y 1)) * (1 / 2) : ℝ) : EReal) := by
  have g := grown h 53 hn
  have e := outsAt0_D m c ⟨53, hn⟩ (by dsimp only; omega) (by dsimp only) (by dsimp only; omega)
  dsimp only at e
  have k := congrFun (result_kept (m := m) (c := c) 26 (by decide) (Nat.lt_of_succ_lt hn)) (ix2 0 0)
  rw [result_first h] at k
  rw [e] at g ⊢
  dsimp only
  rw [result_D]
  have f := finished g _ _ k
  dsimp only at f
  rw [left_D_0, left_D_1, left_D_2] at f
  exact f

end Cert.KernelIdeal.Fold

end
-- ==== Proof.Blocks.lean ====
/- What the grid's blocks read of the two images: each image is one flat sequence of voxels, and point `t` reads the
   32768 voxels from `t * 32768` on. -/
module

public import proofs.«01_k».proof.Proof.Fold
public import Idealize.ShloMosaic.Lib.StableHlo.Run

@[expose] public section

noncomputable section

namespace Cert.KernelIdeal.Blocks

open Cert.KernelIdeal Cert.KernelIdeal.Gen Cert.KernelIdeal.Weigh Cert.KernelIdeal.Fold Idealize.ShloMosaic
open Idealize.ShloMosaic.TcCoe Idealize.SL.Sem

/-- The place of the `n`-th voxel in the two batches of volumes. -/
def voxel (n : ℕ) : S2x1x96x96x96.Idx :=
  ix5 ⟨n / 884736 % 2, Nat.mod_lt _ (by decide)⟩ 0 ⟨n / 9216 % 96, Nat.mod_lt _ (by decide)⟩
    ⟨n / 96 % 96, Nat.mod_lt _ (by decide)⟩ ⟨n % 96, Nat.mod_lt _ (by decide)⟩

/-- The intensities of an image, voxel after voxel. -/
def flat (x : Vec Ideal S2x1x96x96x96 .f32) (n : ℕ) : ℝ := EReal.toReal (x (voxel n))

theorem rowMajor_voxel (n : ℕ) (hn : n < 1769472) : (Shape.rowMajor S2x1x96x96x96 (voxel n)).val = n := by
  rw [Shape.rowMajor_val_five]
  show (((n / 884736 % 2 * 1 + 0) * 96 + n / 9216 % 96) * 96 + n / 96 % 96) * 96 + n % 96 = n
  omega

variable (m : (ℓ : Loc nD τ sig) → Buf (Elt Ideal) ℓ) (c : Dev nD)

theorem V_image0 : V m c main_call0_v0
    = shapeCast S54x2x16384 (m ((c : Thread nD τ).loc main_arg0)) shapeCasts_S2x1x96x96x96_S54x2x16384 := by
  unfold V V0
  simp only [List.flatten_cons, List.flatten_nil, List.append_nil, hostOps0]
  after_results_simp
  rfl

theorem V_image1 : V m c main_call0_v1
    = shapeCast S54x2x16384 (m ((c : Thread nD τ).loc main_arg1)) shapeCasts_S2x1x96x96x96_S54x2x16384 := by
  unfold V V0
  simp only [List.flatten_cons, List.flatten_nil, List.append_nil, hostOps0]
  after_results_simp
  rfl

theorem index0 (t : Fin cfg0.N) : win0_0.index t 0 = t.val ∧ win0_0.index t 1 = 0 ∧ win0_0.index t 2 = 0 := by
  revert t
  show ∀ t : Fin grid0.N, _
  decide +kernel

theorem index1 (t : Fin cfg0.N) : win0_1.index t 0 = t.val ∧ win0_1.index t 1 = 0 ∧ win0_1.index t 2 = 0 := by
  revert t
  show ∀ t : Fin grid0.N, _
  decide +kernel

theorem block0 (t : Fin cfg0.N) (g : Fin 2) (k : Fin 16384) :
    (iblk m c 0 t : Vec Ideal S1x2x16384 .f32) (ix3 0 g k)
      = V m c main_call0_v0 (ix3 ⟨t.val, lt_of_lt_of_eq t.isLt N_0⟩ g k) := by
  obtain ⟨i0, i1, i2⟩ := index0 t
  unfold iblk
  rw [View.read_apply]
  show V m c main_call0_v0 _ = _
  congr 1
  funext a
  apply Fin.ext
  match a with
  | ⟨0, _⟩ => show win0_0.index t 0 * 1 + 1 * 0 = t.val; rw [i0]; omega
  | ⟨1, _⟩ => show win0_0.index t 1 * 2 + 1 * g.val = g.val; rw [i1]; omega
  | ⟨2, _⟩ => show win0_0.index t 2 * 16384 + 1 * k.val = k.val; rw [i2]; omega

theorem block1 (t : Fin cfg0.N) (g : Fin 2) (k : Fin 16384) :
    (iblk m c 1 t : Vec Ideal S1x2x16384 .f32) (ix3 0 g k)
      = V m c main_call0_v1 (ix3 ⟨t.val, lt_of_lt_of_eq t.isLt N_0⟩ g k) := by
  obtain ⟨i0, i1, i2⟩ := index1 t
  unfold iblk
  rw [View.read_apply]
  show V m c main_call0_v1 _ = _
  congr 1
  funext a
  apply Fin.ext
  match a with
  | ⟨0, _⟩ => show win0_1.index t 0 * 1 + 1 * 0 = t.val; rw [i0]; omega
  | ⟨1, _⟩ => show win0_1.index t 1 * 2 + 1 * g.val = g.val; rw [i1]; omega
  | ⟨2, _⟩ => show win0_1.index t 2 * 16384 + 1 * k.val = k.val; rw [i2]; omega

/-- The reshaped image at a block's place is the image at the voxel of that number. -/
theorem reshaped (x : Vec Ideal S2x1x96x96x96 .f32) (t : Fin 54) (g : Fin 2) (k : Fin 16384) :
    shapeCast S54x2x16384 x shapeCasts_S2x1x96x96x96_S54x2x16384 (ix3 t g k)
      = x (voxel (t.val * 32768 + (g.val * 16384 + k.val))) := by
  refine shapeCast_apply x _ _ _ ?_
  have ht := t.isLt
  have hg := g.isLt
  have hk := k.isLt
  rw [rowMajor_voxel _ (by omega), Shape.rowMajor_val_three]
  show t.val * 32768 + (g.val * 16384 + k.val) = (t.val * 2 + g.val) * 16384 + k.val
  omega

/-- With every voxel real, the grid reads the two flat sequences. -/
theorem reads (h0 : ∀ n, m ((c : Thread nD τ).loc main_arg0) (voxel n) = (flat (m ((c : Thread nD τ).loc main_arg0)) n : EReal))
    (h1 : ∀ n, m ((c : Thread nD τ).loc main_arg1) (voxel n) = (flat (m ((c : Thread nD τ).loc main_arg1)) n : EReal)) :
    Reads m c (flat (m ((c : Thread nD τ).loc main_arg0))) (flat (m ((c : Thread nD τ).loc main_arg1))) := by
  intro t
  refine ⟨fun g k => ?_, fun g k => ?_⟩
  · rw [block0, V_image0, reshaped]
    exact h0 _
  · rw [block1, V_image1, reshaped]
    exact h1 _

end Cert.KernelIdeal.Blocks

end
-- ==== Proof.Finite.lean ====
/- The precondition, read at the ideal values: every voxel of both images is a real number. -/
module

public import proofs.«01_k».proof.Proof.Gen.Pre_finite
public import proofs.«01_k».proof.Proof.Consts
public import proofs.«01_k».proof.Proof.Blocks

@[expose] public section

noncomputable section

namespace Cert.Finite

open Idealize.ShloMosaic
open Cert.KernelIdeal.Blocks (voxel flat)

/-- An extended real whose magnitude lies below the top is real. -/
theorem real_of_below {a : EReal} (h : max a (-a) < ⊤) : a = (a.toReal : EReal) := by
  refine (EReal.coe_toReal ?_ ?_).symm
  · rintro rfl
    simp at h
  · rintro rfl
    simp at h

theorem below_of_bit {a : EReal} (h : FloatOps.cmpf (F := Ideal) (φ := .f32) .olt (max a (-a)) (⊤ : EReal) = 1#1) :
    max a (-a) < ⊤ := by
  by_contra hn
  rw [Ideal.cmpf_def] at h
  simp [Ideal.cmp, hn] at h

/-- Both bits of a conjunction that holds are set. -/
theorem bits_of_and (a b : BitVec 1) (h : a &&& b = 1#1) : a = 1#1 ∧ b = 1#1 := by
  revert a b
  decide

theorem reals (x y : Vec Ideal Cert.Pre_finite.S2x1x96x96x96 .f32)
    (h : Cert.Pre_finite.fn (F := Ideal) x y = fun _ => 1#1) :
    (∀ n, x (voxel n) = (flat x n : EReal)) ∧ ∀ n, y (voxel n) = (flat y n : EReal) := by
  have key (n : ℕ) : x (voxel n) = (flat x n : EReal) ∧ y (voxel n) = (flat y n : EReal) := by
    have e := congrFun h (voxel n)
    obtain ⟨e0, e1⟩ := bits_of_and _ _ e
    have t : Ideal.ofBits .f32 0x7F800000#32 = (⊤ : EReal) := Consts.top
    refine ⟨real_of_below (below_of_bit ?_), real_of_below (below_of_bit ?_)⟩
    · rw [← t]; exact e0
    · rw [← t]; exact e1
  exact ⟨fun n => (key n).1, fun n => (key n).2⟩

end Cert.Finite

end
-- ==== Proof.Final.lean ====
/- The kernel's run from real images: the result it ends with. -/
module

public import proofs.«01_k».proof.Proof.Blocks

@[expose] public section

noncomputable section

namespace Cert.KernelIdeal.Final

open Cert.KernelIdeal Cert.KernelIdeal.Gen Cert.KernelIdeal.Fold Cert.KernelIdeal.Blocks Idealize.ShloMosaic
open Idealize.ShloMosaic.TcCoe Idealize.SL.Sem

variable (m : (ℓ : Loc nD τ sig) → Buf (Elt Ideal) ℓ) (ρ : Dev nD → PrngReg) (c : Dev nD)

/-- The last point of the grid. -/
def lastPoint : Fin cfg0.N := ⟨53, by rw [show cfg0.N = 54 from N_0]; decide⟩

/-- The result array: what the last point leaves. -/
def result : Buf (Elt Ideal) ((c : Thread nD τ).loc main_call0_v2) := (outsAt0 m c 53 lastPoint.isLt).1

theorem flushed_eq (t : Fin cfg0.N) (hf : (cfg0.win 2).flush t = true) :
    (dats m 0 c).flushed 2 t = ((cfg0.win 2).blk t).view.read (Elt Ideal) (result m c) := by
  have hN : cfg0.N = 54 := N_0
  have h3 : t.val = 53 := by have := (flush0_2 t).mp hf; have := lt_of_lt_of_eq t.isLt hN; omega
  obtain rfl : t = lastPoint := Fin.ext h3
  show (cfg0.win 2).cut (grid0.coords lastPoint) ((dats m 0 c).after 2 lastPoint) = _
  rw [after0_2]
  have hz' : (fun a => win0_2.index lastPoint a * main_call0_v2.ty.shape.size a) = fun _ => 0 :=
    funext fun a => by fin_cases a <;> decide +kernel
  exact (Memref.read_access_unit_zero (Elt Ideal) main_call0_v2 hz' (fun a => by rw [congrFun hz' a]; simp) (result m c)).symm

theorem final_o : (dats m 0 c).arrAt 2 cfg0.N = result m c :=
  (dats m 0 c).arrAt_eq_of_cover 2 (result m c) (flushed_eq m c) fun i =>
    ⟨lastPoint, (flush0_2 lastPoint).mpr rfl, by
      show i ∈ ((View.whole main_call0_v2).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ => show win0_2.index lastPoint 0 * win0_2.size 0 ≤ (i 0 : Nat) ∧ (i 0 : Nat) < win0_2.index lastPoint 0 * win0_2.size 0 + win0_2.xsize (grid0.coords lastPoint) 0
                  rw [show win0_2.index lastPoint 0 * win0_2.size 0 = 0 from by decide +kernel, show win0_2.xsize (grid0.coords lastPoint) 0 = 1 from by decide +kernel]; omega
      | ⟨1, _⟩ => show win0_2.index lastPoint 1 * win0_2.size 1 ≤ (i 1 : Nat) ∧ (i 1 : Nat) < win0_2.index lastPoint 1 * win0_2.size 1 + win0_2.xsize (grid0.coords lastPoint) 1
                  rw [show win0_2.index lastPoint 1 * win0_2.size 1 = 0 from by decide +kernel, show win0_2.xsize (grid0.coords lastPoint) 1 = 1 from by decide +kernel]; omega⟩

/-- After the region, the last line of @main gives the result array its final shape. -/
theorem tail : Pipeline.afterTail₀ cfgs (dats m) 0 (V0 m) [hostOps1] c main_v0
    = shapeCast S_ (result m c) shapeCasts_S1x1_S_ := by
  unfold Pipeline.afterTail₀
  simp only [List.flatten_cons, List.flatten_nil, List.append_nil, hostOps1]
  after_results_simp
  have e := Pipeline.withArrays_arr spec0 (by decide) c (V0 m c) (fun w => (dats m 0 c).arrAt w cfg0.N) 2
  rw [final_o] at e
  funext i
  exact congrArg (fun x => shapeCast S_ x shapeCasts_S1x1_S_ i) e

/-- The kernel's run, read. -/
theorem run : θ_run defs (onTc (τ := τ) (main (F := Ideal))) ⟨m, fun _ => 0, ρ⟩ fun r => ∀ c : Dev nD,
      r.2.mem ((c : Thread nD τ).loc main_v0) = shapeCast S_ (result m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v0 (Pipeline.mem_restRefs_of main_v0 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The number the kernel computes from two real flat images. -/
def loss (X Y : ℕ → ℝ) : ℝ :=
  0 + (0 - Spec.mi Consts.small (batch X 0) (batch Y 0)) * (1 / 2)
    + (0 - Spec.mi Consts.small (batch X 1) (batch Y 1)) * (1 / 2)

/-- With every voxel real, the result is that number. -/
theorem result_real
    (h0 : ∀ n, m ((c : Thread nD τ).loc main_arg0) (voxel n) = (flat (m ((c : Thread nD τ).loc main_arg0)) n : EReal))
    (h1 : ∀ n, m ((c : Thread nD τ).loc main_arg1) (voxel n) = (flat (m ((c : Thread nD τ).loc main_arg1)) n : EReal)) :
    shapeCast S_ (result m c) shapeCasts_S1x1_S_
      = fun _ => (loss (flat (m ((c : Thread nD τ).loc main_arg0))) (flat (m ((c : Thread nD τ).loc main_arg1))) : EReal) := by
  funext j
  rw [shapeCast_apply (s := S1x1) (t := S_) (result m c) shapeCasts_S1x1_S_ j (ix2 0 0) (by
    have a := (Shape.rowMajor S1x1 (ix2 0 0)).isLt
    have b := (Shape.rowMajor S_ j).isLt
    have ea : Shape.numel S1x1 = 1 := by decide
    have eb : Shape.numel S_ = 1 := by decide
    omega)]
  exact result_last (reads m c h0 h1) lastPoint.isLt

end Cert.KernelIdeal.Final

end
-- ==== Proof.Ref.lean ====
/- The reference at the ideal values, from real images: the same histograms and the same summands of the mutual
   information. -/
module

public import proofs.«01_k».proof.Proof.Gen.ReferenceIdeal.Read
public import proofs.«01_k».proof.Proof.Final

@[expose] public section

noncomputable section

namespace Cert.ReferenceIdeal.Ref

open Cert.ReferenceIdeal Cert.ReferenceIdeal.Gen Cert.ReferenceIdeal.Read Idealize.ShloMosaic Finset
open Cert.KernelIdeal.Blocks (voxel flat rowMajor_voxel)
open Cert.KernelIdeal.Fold (batch)
open Cert.KernelIdeal.Weigh (toInt_bin term_at)

/-- Every voxel of the image is real. -/
def RealImage (x : Vec Ideal S2x1x96x96x96 .f32) : Prop := ∀ n, x (voxel n) = (flat x n : EReal)

/-! ### The shares of a batch -/

/-- The middles of the bins. -/
theorem centers (j : Fin 32) : val_main_v6 (F := Ideal) (ix1 j) = (Spec.center j : EReal) := by
  pointwise [val_main_v6, val_main_v5, val_main_v4, val_main_v3, val_main_v2, val_main_v1, val_main_v0,
    val_main_cst, val_main_cst_0, val_main_cst_1]
  show _ * ((((BitVec.ofNat 32 j.val).toInt : ℝ) : EReal) + _) = _
  rw [Consts.half, Consts.inv32, toInt_bin, ← EReal.coe_add, ← EReal.coe_mul, Spec.center]
  congr 1
  push_cast
  ring

/-- The reshaped image at batch `b` and place `n` is the image at that voxel. -/
theorem reshaped (x : Vec Ideal S2x1x96x96x96 .f32) (b : Fin 2) (n : Fin 884736) :
    shapeCast S2x884736 x shapeCasts_S2x1x96x96x96_S2x884736 (ix2 b n) = x (voxel (b.val * 884736 + n.val)) := by
  refine shapeCast_apply x _ _ _ ?_
  have hb := b.isLt
  have hn := n.isLt
  rw [rowMajor_voxel _ (by omega), Shape.rowMajor_val_two]
  rfl

theorem image0 {x : Vec Ideal S2x1x96x96x96 .f32} (h : RealImage x) (b : Fin 2) (n : Fin 884736) :
    val_main_v7 (F := Ideal) x (ix2 b n) = (batch (flat x) b n : EReal) := (reshaped x b n).trans (h _)

theorem image1 {x : Vec Ideal S2x1x96x96x96 .f32} (h : RealImage x) (b : Fin 2) (n : Fin 884736) :
    val_main_v8 (F := Ideal) x (ix2 b n) = (batch (flat x) b n : EReal) := (reshaped x b n).trans (h _)

/-- The reference's bell around the middle of bin `j`. -/
theorem bell (r : ℝ) (j : Fin 32) :
    Ideal.exp (Ideal.ofBits .f32 0xC4000000#32 * ((r : EReal) - (Spec.center j : EReal))
        * ((r : EReal) - (Spec.center j : EReal))) = (Spec.bell r j : EReal) := by
  rw [Consts.neg512, ← EReal.coe_sub, ← EReal.coe_mul, ← EReal.coe_mul, Ideal.exp_coe, Spec.bell]

theorem shares0 {x : Vec Ideal S2x1x96x96x96 .f32} (h : RealImage x) (b : Fin 2) (n : Fin 884736) (j : Fin 32) :
    val_main_v21 (F := Ideal) x (ix3 b n j) = (Spec.share (batch (flat x) b n) j : EReal) := by
  pointwise [val_main_v21, val_main_v20, val_main_v19, val_main_v18, val_main_v17, val_main_v16, val_main_v15,
    val_main_v14, val_main_v13, val_main_v12, val_main_v11, val_main_v10, val_main_v9, val_main_cst_2, val_main_cst_3]
  simp only [image0 h, centers, bell]
  rw [← Spec.coe_sum, Ideal.div_coe (Spec.sum_bell_pos _).ne', ← EReal.coe_mul, Spec.share, mul_one_div]

theorem shares1 {x : Vec Ideal S2x1x96x96x96 .f32} (h : RealImage x) (b : Fin 2) (n : Fin 884736) (j : Fin 32) :
    val_main_v34 (F := Ideal) x (ix3 b n j) = (Spec.share (batch (flat x) b n) j : EReal) := by
  pointwise [val_main_v34, val_main_v33, val_main_v32, val_main_v31, val_main_v30, val_main_v29, val_main_v28,
    val_main_v27, val_main_v26, val_main_v25, val_main_v24, val_main_v23, val_main_v22, val_main_cst_4, val_main_cst_5]
  simp only [image1 h, centers, bell]
  rw [← Spec.coe_sum, Ideal.div_coe (Spec.sum_bell_pos _).ne', ← EReal.coe_mul, Spec.share, mul_one_div]

/-! ### The histograms and the summands -/

/-- A sum over the intensities of a batch, real after real. -/
theorem sum_places (f : ℕ → ℝ) : ∑ k : Fin 884736, (f k.val : EReal) = ((∑ k ∈ range 884736, f k : ℝ) : EReal) := by
  rw [Finset.sum_range, Spec.coe_sum]

theorem masses (f : ℕ → ℝ) (i : Fin 32) :
    ∑ k : Fin 884736, (Spec.share (f k.val) i : EReal) = (Spec.mass f 884736 i : EReal) :=
  sum_places fun k => Spec.share (f k) i

theorem pairs (f g : ℕ → ℝ) (i j : Fin 32) :
    ∑ k : Fin 884736, (Spec.share (f k.val) i : EReal) * (Spec.share (g k.val) j : EReal)
      = (Spec.pair f g 884736 i j : EReal) := by
  simp only [← EReal.coe_mul]
  exact sum_places fun k => Spec.share (f k) i * Spec.share (g k) j

/-- The summand of bins `i` and `j` of batch `b`. -/
theorem summands {x y : Vec Ideal S2x1x96x96x96 .f32} (h : RealImage x) (h' : RealImage y) (b : Fin 2) (i j : Fin 32) :
    val_main_v55 (F := Ideal) x y (ix3 b i j)
      = (Spec.term Consts.small (Spec.pair (batch (flat x) b) (batch (flat y) b) 884736 i j)
          (Spec.mass (batch (flat x) b) 884736 i) (Spec.mass (batch (flat y) b) 884736 j) : EReal) := by
  pointwise [val_main_v55, val_main_v54, val_main_v53, val_main_v52, val_main_v51, val_main_v50, val_main_v49,
    val_main_v48, val_main_v47, val_main_v46, val_main_v45, val_main_v44, val_main_v43, val_main_v42, val_main_v41,
    val_main_v40, val_main_v39, val_main_v38, val_main_v37, val_main_v36, val_main_v35, val_main_cst_6,
    val_main_cst_7, val_main_cst_8, val_main_cst_9, val_main_cst_10, val_main_cst_11, val_main_cst_12, val_main_cst_13]
  simp only [shares0 h, shares1 h', masses, pairs, Consts.count, Consts.eps, Fin.sum_univ_one]
  simp only [Ideal.div_coe (show (884736 : ℝ) ≠ 0 by norm_num)]
  exact term_at Consts.small_pos (Spec.pair_nonneg _ _ _ _ _) (Spec.mass_nonneg _ _ _) (Spec.mass_nonneg _ _ _)

end Cert.ReferenceIdeal.Ref

end
-- ==== Proof.RefLoss.lean ====
/- The reference's loss on real images: the negated mean of the two batches' mutual informations. -/
module

public import proofs.«01_k».proof.Proof.Ref

@[expose] public section

noncomputable section

namespace Cert.ReferenceIdeal.Loss

open Cert.ReferenceIdeal Cert.ReferenceIdeal.Gen Cert.ReferenceIdeal.Read Cert.ReferenceIdeal.Ref Idealize.ShloMosaic Finset
open Cert.KernelIdeal.Blocks (flat)
open Cert.KernelIdeal.Fold (batch)

/-- The entries that the sum over both bin axes adds into batch `b` are those of batch `b`. -/
theorem drops (b : Fin 2) (i : S2x32x32.Idx) :
    reducesTo_S2x32x32_S2_d2_1.drop i = ix1 b ↔ ∃ k : Fin 32 × Fin 32, ix3 b k.1 k.2 = i := by
  constructor
  · intro e
    refine ⟨(i 1, i 2), ?_⟩
    funext a
    apply Fin.ext
    match a with
    | ⟨0, _⟩ => exact (congrArg Fin.val (congrFun e 0)).symm
    | ⟨1, _⟩ => rfl
    | ⟨2, _⟩ => rfl
  · rintro ⟨k, rfl⟩
    funext a
    apply Fin.ext
    match a with
    | ⟨0, _⟩ => rfl

theorem sum_bins (v : S2x32x32.Idx → EReal) (b : Fin 2) :
    Ideal.hostReduceAdd reducesTo_S2x32x32_S2_d2_1 v 0 (ix1 b) = ∑ i : Fin 32, ∑ j : Fin 32, v (ix3 b i j) := by
  rw [← Fintype.sum_prod_type']
  unfold Ideal.hostReduceAdd
  rw [zero_add]
  exact Finset.sum_filter_eq_sum_of_fiber _ (fun k : Fin 32 × Fin 32 => ix3 b k.1 k.2)
    (fun _ _ e => Prod.ext (congrFun e 1) (congrFun e 2)) (drops b) v

/-- The reference's loss on real images. -/
theorem result_real {x y : Vec Ideal S2x1x96x96x96 .f32} (h : RealImage x) (h' : RealImage y) :
    val_main_v59 (F := Ideal) x y = fun _ => (Cert.KernelIdeal.Final.loss (flat x) (flat y) : EReal) := by
  funext i
  pointwise [val_main_v59, val_main_v58, val_main_v57, val_main_v56, val_main_cst_14, val_main_cst_15, val_main_cst_16]
  simp only [sum_bins, summands h h', ← Spec.coe_sum, Fin.sum_univ_two]
  rw [Consts.two, Ideal.div_coe (by norm_num), ← EReal.coe_mul, ← EReal.coe_neg]
  congr 1
  show -((Spec.mi Consts.small (batch (flat x) 0) (batch (flat y) 0)
      + Spec.mi Consts.small (batch (flat x) 1) (batch (flat y) 1)) * (1 / 2))
    = 0 + (0 - Spec.mi Consts.small (batch (flat x) 0) (batch (flat y) 0)) * (1 / 2)
      + (0 - Spec.mi Consts.small (batch (flat x) 1) (batch (flat y) 1)) * (1 / 2)
  ring

end Cert.ReferenceIdeal.Loss

end
-- ==== Proof.Equal.lean ====
/- The value claim: from real images the idealized kernel and the idealized reference end with one and the same number. -/
module

public import proofs.«01_k».proof.Defs
public import proofs.«01_k».proof.Proof.Finite
public import proofs.«01_k».proof.Proof.Final
public import proofs.«01_k».proof.Proof.RefLoss

@[expose] public section

noncomputable section

namespace Cert.Equal

open Idealize.ShloMosaic Idealize.SL.Sem

/-- Both programs compute the same loss. -/
theorem algebraic : Cert.algebraic_KernelIdeal_ReferenceIdeal_pre_finite := by
  intro m g m' g' hpre hag
  refine ⟨fun c => shapeCast Cert.KernelIdeal.S_ (Cert.KernelIdeal.Final.result m c) Cert.KernelIdeal.Gen.shapeCasts_S1x1_S_,
    Cert.KernelIdeal.Final.run m g, ?_⟩
  refine (θ_run Cert.ReferenceIdeal.defs _ _).mono (fun r h c => ⟨(h c).1.trans ?_, (h c).2⟩)
    (Cert.ReferenceIdeal.Value.run (F := Ideal) m' g')
  obtain ⟨r0, r1⟩ := Cert.Finite.reals _ _ (hpre c)
  rw [Cert.ReferenceIdeal.Read.val_main_v59_eq, (hag c).1, (hag c).2]
  exact (Cert.ReferenceIdeal.Loss.result_real r0 r1).trans (Cert.KernelIdeal.Final.result_real m c r0 r1).symm

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Runs
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    Cert.Runs.frame_kernel,
    Cert.Runs.frame_kernel_ideal,
    fun m ρ _ => Cert.KernelIdeal.Gen.frame m ρ,
    Cert.Runs.frame_reference,
    fun m ρ _ => Cert.Runs.frame_reference_any m ρ,
    Cert.Runs.preserves,
    Cert.Equal.algebraic⟩

end Cert.Proof

end
